-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S16384x200x3 : Shape := ⟨3, ![16384, 200, 3]⟩
abbrev S8192x512 : Shape := ⟨2, ![8192, 512]⟩
abbrev S16384 : Shape := ⟨1, ![16384]⟩
abbrev S8192 : Shape := ⟨1, ![8192]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  reducesTo_S8192_S_d0 : S8192.ReducesTo [0] S_

variable [Facts]

def fn {F : FTy → Type} [FloatOps F] (main_arg0 : FVec F S16384x200x3 .f32) (main_arg1 : FVec F S8192x512 .f32) (main_arg2 : FVec F S8192x512 .f32) (main_arg3 : IVec S16384 32) (main_arg4 : IVec S8192 32) : IVec S_ 1 :=
  let main_c : IVec S_ 32 := constantI S_ 32 0#32
  let main_v0 : IVec S16384 32 := broadcastInDim S16384 ![] bcast_S_S16384 main_c
  let main_v1 : IVec S16384 1 := cmpi .sge main_arg3 main_v0
  let main_c_0 : IVec S_ 32 := constantI S_ 32 200#32
  let main_v2 : IVec S16384 32 := broadcastInDim S16384 ![] bcast_S_S16384 main_c_0
  let main_v3 : IVec S16384 1 := cmpi .slt main_arg3 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_v6 : IVec S8192 32 := iotaInDim S8192 32 0
  let main_v7 : IVec S8192 1 := cmpi .eq main_arg4 main_v6
  let main_c_2 : IVec S_ 1 := constantI S_ 1 1#1
  let main_v8 : IVec S_ 1 := (fun x v => Host.reduce IntOp.andi x v reducesTo_S8192_S_d0 h_S_) main_v7 main_c_2
  let main_v9 : IVec S_ 1 := andi main_v5 main_v8
  main_v9
-- ==== Kernel.lean ====
abbrev S16384x200x3 : Shape := ⟨3, ![16384, 200, 3]⟩
abbrev S8192x512 : Shape := ⟨2, ![8192, 512]⟩
abbrev S16384 : Shape := ⟨1, ![16384]⟩
abbrev S8192 : Shape := ⟨1, ![8192]⟩
abbrev S3x200x16384 : Shape := ⟨3, ![3, 200, 16384]⟩
abbrev S1x1x16384 : Shape := ⟨3, ![1, 1, 16384]⟩
abbrev S1027x16384 : Shape := ⟨2, ![1027, 16384]⟩
abbrev S1x1x1024 : Shape := ⟨3, ![1, 1, 1024]⟩
abbrev S3x200x1024 : Shape := ⟨3, ![3, 200, 1024]⟩
abbrev S1024x512 : Shape := ⟨2, ![1024, 512]⟩
abbrev S1027x1024 : Shape := ⟨2, ![1027, 1024]⟩
abbrev S1x1024 : Shape := ⟨2, ![1, 1024]⟩
abbrev S200x1024 : Shape := ⟨2, ![200, 1024]⟩
abbrev S1x200x1024 : Shape := ⟨3, ![1, 200, 1024]⟩
abbrev S1024 : Shape := ⟨1, ![1024]⟩
abbrev S512x1024 : Shape := ⟨2, ![512, 1024]⟩
abbrev S16384x1027 : Shape := ⟨2, ![16384, 1027]⟩

abbrev nBuf : Space → Nat
  | .hbm => 9
  | .vmem => 10
  | .smem => 0
  | _ => 0

abbrev bufTy : (tb : Table) → Fin (tcTables nBuf tb) → BufTy
  | .hbm, ⟨0, _⟩ => ⟨S16384x200x3, .f32⟩
  | .hbm, ⟨1, _⟩ => ⟨S8192x512, .f32⟩
  | .hbm, ⟨2, _⟩ => ⟨S8192x512, .f32⟩
  | .hbm, ⟨3, _⟩ => ⟨S16384, .i32⟩
  | .hbm, ⟨4, _⟩ => ⟨S8192, .i32⟩
  | .hbm, ⟨5, _⟩ => ⟨S3x200x16384, .f32⟩
  | .hbm, ⟨6, _⟩ => ⟨S1x1x16384, .i32⟩
  | .hbm, ⟨7, _⟩ => ⟨S1027x16384, .f32⟩
  | .hbm, ⟨8, _⟩ => ⟨S16384x1027, .f32⟩
  | .local _ .vmem, ⟨0, _⟩ => ⟨S1x1x1024, .i32⟩
  | .local _ .vmem, ⟨1, _⟩ => ⟨S1x1x1024, .i32⟩
  | .local _ .vmem, ⟨2, _⟩ => ⟨S3x200x1024, .f32⟩
  | .local _ .vmem, ⟨3, _⟩ => ⟨S3x200x1024, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1027x1024, .f32⟩
  | .local _ .vmem, ⟨9, _⟩ => ⟨S1027x1024, .f32⟩
  | _, _ => ⟨S16384x200x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![c0_i32.toNat, c0_i32_0.toNat, v0.toNat]

def cc0_transform_1 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x200x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1027x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16384x200x3 : Shape := ⟨3, ![16384, 200, 3]⟩
abbrev S8192x512 : Shape := ⟨2, ![8192, 512]⟩
abbrev S16384 : Shape := ⟨1, ![16384]⟩
abbrev S8192 : Shape := ⟨1, ![8192]⟩
abbrev S_ : Shape := ⟨0, ![]⟩
abbrev S8192x1 : Shape := ⟨2, ![8192, 1]⟩
abbrev S8192x2 : Shape := ⟨2, ![8192, 2]⟩
abbrev S8192x3 : Shape := ⟨2, ![8192, 3]⟩
abbrev S16384x3 : Shape := ⟨2, ![16384, 3]⟩
abbrev S16384x512 : Shape := ⟨2, ![16384, 512]⟩
abbrev S16384x1027 : Shape := ⟨2, ![16384, 1027]⟩

abbrev nBuf : Space → Nat
  | .hbm => 66
  | .vmem => 0
  | .smem => 0
  | _ => 0

abbrev bufTy : (tb : Table) → Fin (tcTables nBuf tb) → BufTy
  | .hbm, ⟨0, _⟩ => ⟨S16384x200x3, .f32⟩
  | .hbm, ⟨1, _⟩ => ⟨S8192x512, .f32⟩
  | .hbm, ⟨2, _⟩ => ⟨S8192x512, .f32⟩
  | .hbm, ⟨3, _⟩ => ⟨S16384, .i32⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S8192x1, .i32⟩
  | .hbm, ⟨13, _⟩ => ⟨S8192, .i32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S8192, .i32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S8192, .i32⟩
  | .hbm, ⟨28, _⟩ => ⟨S8192x1, .i32⟩
  | .hbm, ⟨29, _⟩ => ⟨S8192x1, .i32⟩
  | .hbm, ⟨30, _⟩ => ⟨S8192x2, .i32⟩
  | .hbm, ⟨31, _⟩ => ⟨S8192x3, .f32⟩
  | .hbm, ⟨32, _⟩ => ⟨S_, .f32⟩
  | .hbm, ⟨33, _⟩ => ⟨S16384x3, .f32⟩
  | .hbm, ⟨34, _⟩ => ⟨S_, .i32⟩
  | .hbm, ⟨35, _⟩ => ⟨S8192, .i32⟩
  | .hbm, ⟨36, _⟩ => ⟨S8192, .i1⟩
  | .hbm, ⟨37, _⟩ => ⟨S_, .i32⟩
  | .hbm, ⟨38, _⟩ => ⟨S8192, .i32⟩
  | .hbm, ⟨39, _⟩ => ⟨S8192, .i32⟩
  | .hbm, ⟨40, _⟩ => ⟨S8192, .i32⟩
  | .hbm, ⟨41, _⟩ => ⟨S8192x1, .i32⟩
  | .hbm, ⟨42, _⟩ => ⟨S16384x3, .f32⟩
  | .hbm, ⟨43, _⟩ => ⟨S_, .f32⟩
  | .hbm, ⟨44, _⟩ => ⟨S16384x512, .f32⟩
  | .hbm, ⟨45, _⟩ => ⟨S_, .i32⟩
  | .hbm, ⟨46, _⟩ => ⟨S8192, .i32⟩
  | .hbm, ⟨47, _⟩ => ⟨S8192, .i1⟩
  | .hbm, ⟨48, _⟩ => ⟨S_, .i32⟩
  | .hbm, ⟨49, _⟩ => ⟨S8192, .i32⟩
  | .hbm, ⟨50, _⟩ => ⟨S8192, .i32⟩
  | .hbm, ⟨51, _⟩ => ⟨S8192, .i32⟩
  | .hbm, ⟨52, _⟩ => ⟨S8192x1, .i32⟩
  | .hbm, ⟨53, _⟩ => ⟨S16384x512, .f32⟩
  | .hbm, ⟨54, _⟩ => ⟨S_, .f32⟩
  | .hbm, ⟨55, _⟩ => ⟨S16384x512, .f32⟩
  | .hbm, ⟨56, _⟩ => ⟨S_, .i32⟩
  | .hbm, ⟨57, _⟩ => ⟨S8192, .i32⟩
  | .hbm, ⟨58, _⟩ => ⟨S8192, .i1⟩
  | .hbm, ⟨59, _⟩ => ⟨S_, .i32⟩
  | .hbm, ⟨60, _⟩ => ⟨S8192, .i32⟩
  | .hbm, ⟨61, _⟩ => ⟨S8192, .i32⟩
  | .hbm, ⟨62, _⟩ => ⟨S8192, .i32⟩
  | .hbm, ⟨63, _⟩ => ⟨S8192x1, .i32⟩
  | .hbm, ⟨64, _⟩ => ⟨S16384x512, .f32⟩
  | .hbm, ⟨65, _⟩ => ⟨S16384x1027, .f32⟩
  | _, _ => ⟨S16384x200x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_c_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_c_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_c_8 : Ref sig .tc := ⟨.hbm, 45, rfl⟩
abbrev main_v30 : Ref sig .tc := ⟨.hbm, 46, rfl⟩
abbrev main_v31 : Ref sig .tc := ⟨.hbm, 47, rfl⟩
abbrev main_c_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_c_11 : Ref sig .tc := ⟨.hbm, 56, rfl⟩
abbrev main_v38 : Ref sig .tc := ⟨.hbm, 57, rfl⟩
abbrev main_v39 : Ref sig .tc := ⟨.hbm, 58, rfl⟩
abbrev main_c_12 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩

abbrev nD : Nat := 1
abbrev τ : Topo := Topo.v7x

variable {F : FTy → Type} [FloatOps F]
-- ==== Proof.Drawn.lean ====
/-
  What the precondition `drawn` says, read at an index: every pointer is one of the 200 time steps, and entry `i` of the
  batch indices is the word of `i`.
-/
module

public import proofs.«01_k».proof.Pre_drawn
public import proofs.«01_k».proof.Proof.Gen.Pre_drawn
public import Idealize.ShloMosaic.Lib.ReduceAll
public import Idealize.ShloMosaic.Lib.Pointwise
public import Idealize.ShloMosaic.Lib.StableHlo.Predicate
public import Idealize.ShloMosaic.PureOps.Ideal

@[expose] public section

noncomputable section

namespace Cert.Drawn

open Idealize.ShloMosaic Cert.Pre_drawn Idealize.ShloMosaic.ValueIdx

variable [hF : Cert.Pre_drawn.Facts]

/-- A word that is at least zero and below 200 as a signed word is below 200 as a natural number. -/
theorem toNat_lt_of_signed (w : BitVec 32) (h0 : IntOp.cmpi .sge w 0#32 = 1#1) (h1 : IntOp.cmpi .slt w 200#32 = 1#1) :
    w.toNat < 200 := by
  have e0 := IntOp.cmpi_sge.mp h0
  have e1 := IntOp.cmpi_slt.mp h1
  have c0 : (0#32).toInt = 0 := by decide
  have c1 : (200#32).toInt = 200 := by decide
  rw [c0] at e0; rw [c1] at e1
  rw [BitVec.toInt_eq_toNat_cond] at e0 e1
  have := w.isLt
  split at e0 <;> omega

variable {x0 : FVec Ideal S16384x200x3 .f32} {x1 x2 : FVec Ideal S8192x512 .f32} {p : IVec S16384 32} {b : IVec S8192 32}

/-- Both conjuncts of the precondition hold. -/
theorem both (h : Cert.Pre_drawn.fn (F := Ideal) x0 x1 x2 p b = fun _ => 1#1) (i : S16384.Idx) (j : S8192.Idx) :
    (p i).toNat < 200 ∧ b j = BitVec.ofNat 32 (j 0).val := by
  have h' := congrFun h ValueIdx.ix0
  dsimp only [Cert.Pre_drawn.fn] at h'
  obtain ⟨hp, hb⟩ := IntOp.andi_eq_one.mp h'
  have hp' := Host.reduce_andi_all _ _ _ _ _ hp i
  have hb' := Host.reduce_andi_all _ _ _ _ _ hb j
  obtain ⟨h0, h1⟩ := IntOp.andi_eq_one.mp hp'
  exact ⟨toNat_lt_of_signed _ h0 h1, StableHlo.Predicate.cmpi_eq_iff.mp hb'⟩

end Cert.Drawn
-- ==== Proof.Block.lean ====
/-
  What one grid point of the kernel computes, read at an index of its output block (1027 rows, 1024 lanes).

  At a point of the first half of the grid, lane `l` of the block holds, from the top: the three rows of the solution block
  at the time step the pointer of lane `l` names, then row `l` of the eligible block, then row `l` of the future-eligible
  block. The kernel finds the time step by masking all 200 of them against the pointer and adding what is left; where the
  pointer is a time step, exactly one term of that sum survives the mask.
-/
module

public import proofs.«01_k».proof.Proof.Gen.KernelIdeal.Frame
public import Idealize.ShloMosaic.Lib.Pipeline.ValueKit
public import Idealize.ShloMosaic.Lib.Pointwise
public import Idealize.ShloMosaic.Lib.WordCmp
public import Idealize.ShloMosaic.PureOps.Ideal

@[expose] public section

noncomputable section

namespace Cert.Block

open Idealize.ShloMosaic Idealize.ShloMosaic.TcCoe Idealize.SL.Sem
open Cert.KernelIdeal Cert.KernelIdeal.Gen

/-- Row `r`, lane `l` of the block that the first half of the grid writes: `step` is the time step of each lane. -/
def cell (s : Vec Ideal S3x200x1024 .f32) (e f : Vec Ideal S1024x512 .f32) (step : Fin 1024 → Fin 200)
    (r : Fin 1027) (l : Fin 1024) : Ideal .f32 :=
  if h : r.val < 3 then s (ix3 ⟨r.val, h⟩ (step l) l)
  else if h' : r.val < 515 then e (ix2 l ⟨r.val - 3, by omega⟩)
  else f (ix2 l ⟨r.val - 515, by omega⟩)

/-- The block itself. -/
def filled (s : Vec Ideal S3x200x1024 .f32) (e f : Vec Ideal S1024x512 .f32) (step : Fin 1024 → Fin 200) :
    Vec Ideal S1027x1024 .f32 := fun y => cell s e f step (y 0) (y 1)

section Cells

variable (s : Vec Ideal S3x200x1024 .f32) (e f : Vec Ideal S1024x512 .f32) (step : Fin 1024 → Fin 200)
  {r : Fin 1027} {l : Fin 1024}

/-- The first three rows. -/
theorem cell_sol (k : Fin 3) (h : r.val = k.val) : cell s e f step r l = s (ix3 k (step l) l) := by
  unfold cell
  rw [dif_pos (by omega)]
  exact congrArg (fun k => s (ix3 k (step l) l)) (Fin.ext h)

/-- The next 512 rows. -/
theorem cell_elig (k : Fin 512) (h : r.val = 3 + k.val) : cell s e f step r l = e (ix2 l k) := by
  unfold cell
  rw [dif_neg (by omega), dif_pos (by omega)]
  exact congrArg (fun k => e (ix2 l k)) (Fin.ext (by show r.val - 3 = k.val; omega))

/-- The last 512 rows. -/
theorem cell_fut (k : Fin 512) (h : r.val = 515 + k.val) : cell s e f step r l = f (ix2 l k) := by
  unfold cell
  rw [dif_neg (by omega), dif_neg (by omega)]
  exact congrArg (fun k => f (ix2 l k)) (Fin.ext (by show r.val - 515 = k.val; omega))

end Cells

variable (p : Vec Ideal S1x1x1024 .i32) (s : Vec Ideal S3x200x1024 .f32) (e f : Vec Ideal S1024x512 .f32)

/-- Masking 200 terms by equality with the word of one of them and adding them gives that term. -/
theorem sum_masked (g : Fin 200 → Ideal .f32) (k : Fin 200) :
    ∑ t : Fin 200, Scalar.select (IntOp.cmpi .eq (BitVec.ofNat 32 t.val) (BitVec.ofNat 32 k.val)) (g t) 0 = g k := by
  rw [Finset.sum_eq_single k]
  · rw [IntOp.cmpi_eq.mpr rfl]; rfl
  · intro t _ ht
    have hne : IntOp.cmpi .eq (BitVec.ofNat 32 t.val) (BitVec.ofNat 32 k.val) ≠ 1#1 := fun h => by
      have h' := congrArg BitVec.toNat (IntOp.cmpi_eq.mp h)
      simp only [BitVec.toNat_ofNat] at h'
      have := t.isLt; have := k.isLt
      exact ht (Fin.ext (by omega))
    rw [ValueIdx.eq_zero_of_ne_one hne]; rfl
  · intro h; exact absurd (Finset.mem_univ k) h

variable {step : Fin 1024 → Fin 200}

section Rows

variable {p} (hp : ∀ l : Fin 1024, p (ix3 0 0 l) = BitVec.ofNat 32 (step l).val)
include hp

/-- Row 0 of the block: the first component of the solution at the lane's time step. -/
theorem row0 (x : S1x1024.Idx) : k0_pay5 p s x = s (ix3 0 (step (x 1)) (x 1)) := by
  unfold k0_pay5 k0_pay3 k0_pay4
  pointwise
  rw [hp (x 1)]
  exact sum_masked (fun t => s (ix3 0 t (x 1))) (step (x 1))

/-- Row 1 of the block: the second component. -/
theorem row1 (x : S1x1024.Idx) : k0_pay6 p s x = s (ix3 1 (step (x 1)) (x 1)) := by
  unfold k0_pay6 k0_pay3 k0_pay4
  pointwise
  rw [hp (x 1)]
  exact sum_masked (fun t => s (ix3 1 t (x 1))) (step (x 1))

/-- Row 2 of the block: the third component. -/
theorem row2 (x : S1x1024.Idx) : k0_pay7 p s x = s (ix3 2 (step (x 1)) (x 1)) := by
  unfold k0_pay7 k0_pay3 k0_pay4
  pointwise
  rw [hp (x 1)]
  exact sum_masked (fun t => s (ix3 2 t (x 1))) (step (x 1))

end Rows

/-- The eligible rows: the block transposed. -/
theorem rowsE (x : S512x1024.Idx) : k0_pay8 e x = e (ix2 (x 1) (x 0)) := by
  unfold k0_pay8
  pointwise

/-- The future-eligible rows: the block transposed. -/
theorem rowsF (x : S512x1024.Idx) : k0_pay1 f x = f (ix2 (x 1) (x 0)) := by
  unfold k0_pay1
  pointwise

/-- The block of the second half of the grid: zeros. -/
theorem zeros (x : S1027x1024.Idx) : k0_pay2 (F := Ideal) x = 0 := by
  unfold k0_pay2
  pointwise

/-- The five stores of the first half of the grid leave `filled`. -/
theorem stored (hp : ∀ l : Fin 1024, p (ix3 0 0 l) = BitVec.ofNat 32 (step l).val) (y : S1027x1024.Idx) :
    View.canon
      [⟨Rect.unit ![515, 0] ![512, 1024] inb_S1027x1024_S512x1024_515_0, k0_pay1 f⟩,
        ⟨Rect.unit ![3, 0] ![512, 1024] inb_S1027x1024_S512x1024_3_0, k0_pay8 e⟩,
        ⟨Rect.unit ![2, 0] ![1, 1024] inb_S1027x1024_S1x1024_2_0, k0_pay7 p s⟩,
        ⟨Rect.unit ![1, 0] ![1, 1024] inb_S1027x1024_S1x1024_1_0, k0_pay6 p s⟩,
        ⟨Rect.unit ![0, 0] ![1, 1024] inb_S1027x1024_S1x1024_0_0, k0_pay5 p s⟩]
      y = filled s e f step y := by
  canon_tiles x h using View.cover_of_tiledBy _ ![1, 1024] (by sl_kernel_rfl) y
  all_goals show _ = cell s e f step (y 0) (y 1)
  all_goals rw [show y 1 = (x 1 : Fin 1024) from Fin.ext h1]
  · rw [rowsF]
    exact (cell_fut s e f step (x 0) h0).symm
  · rw [rowsE]
    exact (cell_elig s e f step (x 0) h0).symm
  · rw [row2 s hp]
    exact (cell_sol s e f step 2 (by show (y 0).val = 2; omega)).symm
  · rw [row1 s hp]
    exact (cell_sol s e f step 1 (by show (y 0).val = 1; omega)).symm
  · rw [row0 s hp]
    exact (cell_sol s e f step 0 (by show (y 0).val = 0; omega)).symm

end Cert.Block
-- ==== Proof.Answer.lean ====
/-
  The function both programs compute, written once.

  Row `i` of the answer has 1027 entries. For the first 8192 rows they are the three components of the solution at the
  time step of row `i`, then the 512 entries of the eligible row, then those of the future-eligible row. The other rows are zero.
-/
module

public import Idealize.ShloMosaic.Lib.Pointwise
public import Idealize.ShloMosaic.PureOps.Ideal

@[expose] public section

noncomputable section

namespace Cert.Answer

open Idealize.ShloMosaic

variable (sols : FVec Ideal ⟨3, ![16384, 200, 3]⟩ .f32) (e f : FVec Ideal ⟨2, ![8192, 512]⟩ .f32)
  (step : Fin 16384 → Fin 200)

/-- Entry `j` of row `i`, from the solutions, the two tables and the time step of each row. -/
def entry (i : Fin 16384) (j : Fin 1027) : Ideal .f32 :=
  if hr : i.val < 8192 then
    if h : j.val < 3 then sols (ix3 i (step i) ⟨j.val, h⟩)
    else if h' : j.val < 515 then e (ix2 ⟨i.val, hr⟩ ⟨j.val - 3, by omega⟩)
    else f (ix2 ⟨i.val, hr⟩ ⟨j.val - 515, by omega⟩)
  else 0

/-- The answer as an array. -/
def answer : FVec Ideal ⟨2, ![16384, 1027]⟩ .f32 := fun y => entry sols e f step (y 0) (y 1)

variable {i : Fin 16384} {j : Fin 1027}

/-- The first three entries of a row that is filled. -/
theorem entry_sol (hi : i.val < 8192) (k : Fin 3) (hj : j.val = k.val) :
    entry sols e f step i j = sols (ix3 i (step i) k) := by
  unfold entry
  rw [dif_pos hi, dif_pos (by omega)]
  exact congrArg (fun k => sols (ix3 i (step i) k)) (Fin.ext hj)

/-- The next 512 entries. -/
theorem entry_elig (r : Fin 8192) (hi : i.val = r.val) (k : Fin 512) (hj : j.val = 3 + k.val) :
    entry sols e f step i j = e (ix2 r k) := by
  unfold entry
  rw [dif_pos (by omega), dif_neg (by omega), dif_pos (by omega)]
  exact congrArg₂ (fun r k => e (ix2 r k)) (Fin.ext hi) (Fin.ext (by show j.val - 3 = k.val; omega))

/-- The last 512 entries. -/
theorem entry_fut (r : Fin 8192) (hi : i.val = r.val) (k : Fin 512) (hj : j.val = 515 + k.val) :
    entry sols e f step i j = f (ix2 r k) := by
  unfold entry
  rw [dif_pos (by omega), dif_neg (by omega), dif_neg (by omega)]
  exact congrArg₂ (fun r k => f (ix2 r k)) (Fin.ext hi) (Fin.ext (by show j.val - 515 = k.val; omega))

/-- The rows that nothing fills. -/
theorem entry_rest (hi : 8192 ≤ i.val) : entry sols e f step i j = 0 := by
  unfold entry
  rw [dif_neg (by omega)]

/-- Every column is one of three kinds. -/
theorem kinds (j : Fin 1027) :
    (∃ k : Fin 3, j.val = k.val) ∨ (∃ k : Fin 512, j.val = 3 + k.val) ∨ ∃ k : Fin 512, j.val = 515 + k.val := by
  rcases Nat.lt_or_ge j.val 3 with h | h
  · exact .inl ⟨⟨j.val, h⟩, rfl⟩
  · rcases Nat.lt_or_ge j.val 515 with h' | h'
    · exact .inr (.inl ⟨⟨j.val - 3, by omega⟩, by show j.val = 3 + (j.val - 3); omega⟩)
    · exact .inr (.inr ⟨⟨j.val - 515, by omega⟩, by show j.val = 515 + (j.val - 515); omega⟩)

end Cert.Answer
-- ==== Proof.Array.lean ====
/-
  What the kernel's arrays hold after the run: the blocks written back tile the transposed answer, and the transpose after
  the region turns it into the answer.
-/
module

public import proofs.«01_k».proof.Proof.Block
public import proofs.«01_k».proof.Proof.Answer
public import Idealize.ShloMosaic.Lib.StableHlo.ReadAt

@[expose] public section

noncomputable section

namespace Cert.Array

open Idealize.ShloMosaic Idealize.ShloMosaic.TcCoe Idealize.SL.Sem
open Cert.KernelIdeal Cert.KernelIdeal.Gen

variable (m : (ℓ : Loc nD τ sig) → Buf (Elt Ideal) ℓ)

/-- The answer of device `c`'s argument arrays, at the time steps `step`. -/
abbrev want (c : Dev nD) (step : Fin 16384 → Fin 200) : FVec Ideal S16384x1027 .f32 :=
  Answer.answer (m ((c : Thread nD τ).loc main_arg0)) (m ((c : Thread nD τ).loc main_arg1)) (m ((c : Thread nD τ).loc main_arg2)) step

/-- The answer with its axes exchanged: what the kernel's output array is to hold. -/
abbrev wantT (c : Dev nD) (step : Fin 16384 → Fin 200) : FVec Ideal S1027x16384 .f32 :=
  fun y => want m c step (ix2 (y 1) (y 0))

/-- The block index of each window at point `t`: the input windows stop at block 7, the output window does not. -/
theorem idx_p : ∀ t : Fin cfg0.N, win0_0.index t = ![0, 0, min t.val 7] := by decide +kernel
theorem idx_s : ∀ t : Fin cfg0.N, win0_1.index t = ![0, 0, min t.val 7] := by decide +kernel
theorem idx_e : ∀ t : Fin cfg0.N, win0_2.index t = ![min t.val 7, 0] := by decide +kernel
theorem idx_f : ∀ t : Fin cfg0.N, win0_3.index t = ![min t.val 7, 0] := by decide +kernel
theorem idx_o : ∀ t : Fin cfg0.N, win0_4.index t = ![0, t.val] := by decide +kernel

/-- The region finds the solutions with their axes reversed. -/
theorem entry_s (c : Dev nD) (x : S3x200x16384.Idx) :
    V m c main_v0 x = m ((c : Thread nD τ).loc main_arg0) (ix3 (x 2) (x 1) (x 0)) := by
  unfold V V0 hostOps0
  simp only [List.flatten_cons, List.flatten_nil, List.append_nil]
  after_reads_at

/-- The region finds the pointers as one row. -/
theorem entry_p (c : Dev nD) (x : S1x1x16384.Idx) :
    V m c main_v1 x = m ((c : Thread nD τ).loc main_arg3) (ix1 (x 2)) := by
  unfold V V0 hostOps0
  simp only [List.flatten_cons, List.flatten_nil, List.append_nil]
  after_reads_at

/-- The blocks of the four inputs at a point of the first half of the grid: rows `1024 t + l` of the arguments. -/
theorem blk_e (c : Dev nD) (t : Fin cfg0.N) (h : t.val < 8) (l : Fin 1024) (k : Fin 512) :
    iblk m c 2 t (ix2 l k) = m ((c : Thread nD τ).loc main_arg1) (ix2 ⟨1024 * t.val + l.val, by omega⟩ k) := by
  blk_simp [iblk, V_main_arg1]
  blk_ext [idx_e t]

theorem blk_f (c : Dev nD) (t : Fin cfg0.N) (h : t.val < 8) (l : Fin 1024) (k : Fin 512) :
    iblk m c 3 t (ix2 l k) = m ((c : Thread nD τ).loc main_arg2) (ix2 ⟨1024 * t.val + l.val, by omega⟩ k) := by
  blk_simp [iblk, V_main_arg2]
  blk_ext [idx_f t]

theorem blk_s (c : Dev nD) (t : Fin cfg0.N) (h : t.val < 8) (l : Fin 1024) (k : Fin 3) (q : Fin 200) :
    iblk m c 1 t (ix3 k q l) = m ((c : Thread nD τ).loc main_arg0) (ix3 ⟨1024 * t.val + l.val, by omega⟩ q k) := by
  blk_simp [iblk]
  rw [entry_s]
  blk_ext [idx_s t]

theorem blk_p (c : Dev nD) (t : Fin cfg0.N) (h : t.val < 8) (l : Fin 1024) :
    iblk m c 0 t (ix3 0 0 l) = m ((c : Thread nD τ).loc main_arg3) (ix1 ⟨1024 * t.val + l.val, by omega⟩) := by
  blk_simp [iblk]
  rw [entry_p]
  blk_ext [idx_p t]

variable {m}

/-- Where the first half of the grid writes, its block is a block of the transposed answer. -/
theorem cell_eq (c : Dev nD) (step : Fin 16384 → Fin 200) (t : Fin cfg0.N) (h : t.val < 8) (r : Fin 1027) (l : Fin 1024)
    (i : Fin 16384) (hi : i.val = 1024 * t.val + l.val) (j : Fin 1027) (hj : j.val = r.val) :
    Block.cell (iblk m c 1 t) (iblk m c 2 t) (iblk m c 3 t) (fun l => step ⟨1024 * t.val + l.val, by omega⟩) r l
      = Answer.entry (m ((c : Thread nD τ).loc main_arg0)) (m ((c : Thread nD τ).loc main_arg1))
          (m ((c : Thread nD τ).loc main_arg2)) step i j := by
  have hlt : 1024 * t.val + l.val < 16384 := by clear hi; omega
  obtain rfl : i = ⟨1024 * t.val + l.val, hlt⟩ := Fin.ext hi
  obtain rfl : j = r := Fin.ext hj
  rcases Answer.kinds j with ⟨k, hk⟩ | ⟨k, hk⟩ | ⟨k, hk⟩
  · rw [Block.cell_sol _ _ _ _ k hk, blk_s m c t h, Answer.entry_sol _ _ _ _ (by show 1024 * t.val + l.val < 8192; omega) k hk]
  · rw [Block.cell_elig _ _ _ _ k hk, blk_e m c t h, Answer.entry_elig _ _ _ _ ⟨1024 * t.val + l.val, by omega⟩ rfl k hk]
  · rw [Block.cell_fut _ _ _ _ k hk, blk_f m c t h, Answer.entry_fut _ _ _ _ ⟨1024 * t.val + l.val, by omega⟩ rfl k hk]

/-- The kernel's output array after the run: the answer, transposed. -/
theorem final (c : Dev nD) (step : Fin 16384 → Fin 200)
    (hp : ∀ i : Fin 16384, m ((c : Thread nD τ).loc main_arg3) (ix1 i) = BitVec.ofNat 32 (step i).val) :
    (dats m 0 c).arrAt 4 cfg0.N = wantT m c step := by
  refine (dats m 0 c).arrAt_eq_of_covers 4 _ (by decide +kernel) fun t hf y => ?_
  blk_simp
  rw [after0_4]
  by_cases h : t.val < 8
  · rw [outsAt0_A m c t h (by omega)]
    frame_out
    rw [Block.stored (iblk m c 0 t) (iblk m c 1 t) (iblk m c 2 t) (iblk m c 3 t)
      (step := fun l => step ⟨1024 * t.val + l.val, by omega⟩) (fun l => by rw [blk_p m c t h, hp])]
    refine cell_eq c step t h (y 0) (y 1) _ ?_ _ ?_
    · blk_simp [idx_o t]
      omega
    · blk_simp [idx_o t]
  · rw [outsAt0_B m c t h (by omega)]
    frame_out
    rw [Block.zeros]
    refine (Answer.entry_rest _ _ _ _ ?_).symm
    blk_simp [idx_o t]
    omega

/-- After the region and the transpose that follows it, the result buffer holds the answer. -/
theorem tail (c : Dev nD) (step : Fin 16384 → Fin 200)
    (hp : ∀ i : Fin 16384, m ((c : Thread nD τ).loc main_arg3) (ix1 i) = BitVec.ofNat 32 (step i).val) :
    Pipeline.afterTail₀ cfgs (dats m) 0 (V0 m) [hostOps1] c main_v3 = want m c step := by
  have hA : Pipeline.withArrays spec0 c (V0 m c) (fun w => (dats m 0 c).arrAt w cfg0.N) (Proc.devRef .tc main_v2)
      = wantT m c step :=
    (Pipeline.withArrays_arr spec0 (by decide) c (V0 m c) (fun w => (dats m 0 c).arrAt w cfg0.N) 4).trans (final c step hp)
  unfold Pipeline.afterTail₀
  simp only [List.flatten_cons, List.flatten_nil, List.append_nil]
  funext y
  after_reads_at
  rw [hA]
  rfl

/-- The run: the result is the answer, the arguments are unchanged. -/
theorem run (ρ : Dev nD → PrngReg) (step : Dev nD → Fin 16384 → Fin 200)
    (hp : ∀ (c : Dev nD) (i : Fin 16384), m ((c : Thread nD τ).loc main_arg3) (ix1 i) = BitVec.ofNat 32 (step c i).val) :
    θ_run defs (onTc (τ := τ) (main (F := Ideal))) ⟨m, fun _ => 0, ρ⟩ fun r => ∀ c : Dev nD,
      r.2.mem ((c : Thread nD τ).loc main_v3) = want m c (step c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  run_from run_main m ρ
  · exact tail c (step c) (hp c)
  · exact W_main_arg0 m (dats m) c
  · exact W_main_arg3 m (dats m) c
  · exact W_main_arg4 m (dats m) c

end Cert.Array
-- ==== Proof.Rows.lean ====
/-
  Two array operations read at an entry: whole rows written at the rows a column of words names, and
  a row of a three-dimensional table picked by a pair of words.
-/
module

public import Idealize.ShloMosaic.Lib.Routing.OpsSet
public import Idealize.ShloMosaic.Lib.Routing.OpsPair

@[expose] public section

namespace Cert.Rows

open Idealize.ShloMosaic Idealize.ShloMosaic.ValueIdx Idealize.ShloMosaic.Routing

section Written

variable {R C n : Nat} (d : ScatterDims (shape2 R C) (shape2 n 1) (shape2 n C))
  (huw : d.updateWindowDims = [1]) (hiw : d.insertedWindowDims = [0])
  (hsd : d.scatterDimsToOperandDims = [0]) (hivd : d.indexVectorDim = 1) (idx : IVec (shape2 n 1) 32)

include huw hiw hsd hivd

/-- Row `a` of the updates lands on the row its word names, column by column. -/
theorem lands (a : Fin n) (b : Fin C) (r : Fin R) (c : Fin C) :
    d.resultIdx? (ix2 a b) idx = some (ix2 r c) ↔
      (idx (ix2 a (0 : Fin 1))).toInt = (r.val : Int) ∧ b.val = c.val := by
  obtain ⟨uw, iw, sd, iv, wf⟩ := d
  simp only at huw hiw hsd hivd
  subst huw hiw hsd hivd
  rw [resultIdx?_ix2]
  generalize hd : (⟨[1], [0], [0], 1, wf⟩ : ScatterDims (shape2 R C) (shape2 n 1) (shape2 n C)) = d
  have w0 : d.window (ix2 a b) 0 = 0 := by subst hd; rfl
  have w1 : d.window (ix2 a b) 1 = b.val := by subst hd; rfl
  have s1 : d.start (ix2 a b) idx 1 = 0 := by subst hd; rfl
  have s0 : d.start (ix2 a b) idx 0 = (idx (ix2 a (0 : Fin 1))).toInt := by
    subst hd
    refine congrArg (fun y => (idx y).toInt) (funext fun x => ?_)
    match x with
    | ⟨0, _⟩ => rfl
    | ⟨1, _⟩ => rfl
  rw [w0, w1, s0, s1]
  omega

/-- With row `a` of the updates sent to row `a`, an entry of one of the first `n` rows is the update's. -/
theorem written {α : Type} (x : (shape2 R C).Idx → α) (upd : (shape2 n C).Idx → α)
    (hidx : ∀ a : Fin n, (idx (ix2 a (0 : Fin 1))).toInt = (a.val : Int)) (r : Fin R) (a : Fin n)
    (hr : r.val = a.val) (c : Fin C) : Host.scatter d (fun _ b => b) x idx upd (ix2 r c) = upd (ix2 a c) := by
  refine scatter_set_hit d x idx upd _ _ (fun k hk => ?_) (ix2 a c)
    ((lands d huw hiw hsd hivd idx a c r c).2 ⟨by rw [hidx, hr], rfl⟩)
  rw [eq_ix2 k] at hk ⊢
  have h := (lands d huw hiw hsd hivd idx (k 0) (k 1) r c).1 hk
  have h0 := (hidx (k 0)).symm.trans h.1
  exact congrArg₂ (fun p q => upd (ix2 p q)) (Fin.ext (by omega)) (Fin.ext h.2)

/-- The rows past the first `n` keep the operand. -/
theorem kept {α : Type} (x : (shape2 R C).Idx → α) (upd : (shape2 n C).Idx → α)
    (hidx : ∀ a : Fin n, (idx (ix2 a (0 : Fin 1))).toInt = (a.val : Int)) (r : Fin R)
    (hr : n ≤ r.val) (c : Fin C) : Host.scatter d (fun _ b => b) x idx upd (ix2 r c) = x (ix2 r c) := by
  refine scatter_set_miss d x idx upd _ fun k hk => ?_
  rw [eq_ix2 k] at hk
  have h := (lands d huw hiw hsd hivd idx (k 0) (k 1) r c).1 hk
  have h0 := (hidx (k 0)).symm.trans h.1
  have := (k 0).isLt
  change (k 0).val < n at this
  omega

end Written

/-- A row of a three-dimensional table picked by a pair of words that name it. -/
theorem picked {α : Type} {M T K n : Nat} (d : GatherDims (shape3 M T K) (shape2 n 2) (shape2 n K))
    (ho : d.offsetDims = [1]) (hc : d.collapsedSliceDims = [0, 1]) (hob : d.operandBatchingDims = [])
    (hsb : d.startIndicesBatchingDims = []) (hm : d.startIndexMap = [0, 1]) (hivd : d.indexVectorDim = 1)
    (x : (shape3 M T K).Idx → α) (idx : IVec (shape2 n 2) 32) (a : Fin n) (k : Fin K) (r : Fin M) (q : Fin T)
    (h0 : (idx (ix2 a (0 : Fin 2))).toInt = (r.val : Int)) (h1 : (idx (ix2 a (1 : Fin 2))).toInt = (q.val : Int)) :
    Host.gather d x idx (ix2 a k) = x (ix3 r q k) := by
  have z0 := d.slice_collapsed 0 (by rw [hc]; exact List.mem_cons_self)
  have z1 := d.slice_collapsed 1 (by rw [hc]; exact List.mem_cons_of_mem _ List.mem_cons_self)
  obtain ⟨od, cd, ob, sb, sm, iv, sz, wf⟩ := d
  simp only at ho hc hob hsb hm hivd z0 z1
  subst ho hc hob hsb hm hivd
  unfold Host.gather
  refine congrArg x (funext fun y => Fin.ext ?_)
  generalize hd : (⟨[1], [0, 1], [], [], [0, 1], 1, sz, wf⟩ :
    GatherDims (shape3 M T K) (shape2 n 2) (shape2 n K)) = d
  have hr := r.isLt
  have hq := q.isLt
  match y with
  | ⟨0, _⟩ =>
    show d.start (ix2 a k) idx 0 + d.batchCoord (ix2 a k) 0 + d.offCoord (ix2 a k) 0 = r.val
    have s : d.start (ix2 a k) idx 0 = min (idx (ix2 a (0 : Fin 2))).toInt.toNat (M - sz 0) := by
      subst hd
      refine congrArg (fun y => min (idx y).toInt.toNat (M - sz 0)) (funext fun x => ?_)
      match x with
      | ⟨0, _⟩ => rfl
      | ⟨1, _⟩ => rfl
    have b : d.batchCoord (ix2 a k) 0 = 0 := by subst hd; rfl
    have o : d.offCoord (ix2 a k) 0 = 0 := by subst hd; rfl
    rw [s, b, o, h0, z0]
    omega
  | ⟨1, _⟩ =>
    show d.start (ix2 a k) idx 1 + d.batchCoord (ix2 a k) 1 + d.offCoord (ix2 a k) 1 = q.val
    have s : d.start (ix2 a k) idx 1 = min (idx (ix2 a (1 : Fin 2))).toInt.toNat (T - sz 1) := by
      subst hd
      refine congrArg (fun y => min (idx y).toInt.toNat (T - sz 1)) (funext fun x => ?_)
      match x with
      | ⟨0, _⟩ => rfl
      | ⟨1, _⟩ => rfl
    have b : d.batchCoord (ix2 a k) 1 = 0 := by subst hd; rfl
    have o : d.offCoord (ix2 a k) 1 = 0 := by subst hd; rfl
    rw [s, b, o, h1, z1]
    omega
  | ⟨2, _⟩ =>
    show d.start (ix2 a k) idx 2 + d.batchCoord (ix2 a k) 2 + d.offCoord (ix2 a k) 2 = k.val
    have s : d.start (ix2 a k) idx 2 = 0 := by subst hd; rfl
    have b : d.batchCoord (ix2 a k) 2 = 0 := by subst hd; rfl
    have o : d.offCoord (ix2 a k) 2 = k.val := by subst hd; rfl
    rw [s, b, o]
    omega

end Cert.Rows
-- ==== Proof.Reference.lean ====
/-
  What the reference computes, read entry by entry.

  The reference turns the batch positions into a column of words, reads the time step of each position, picks the
  solution of each (position, step) pair, and writes three blocks of rows into three tables of zeros, which it
  sets side by side. With the batch positions counting up from zero and every time step in range the result is the
  answer of `Cert.Answer`.
-/
module

public import proofs.«01_k».proof.Proof.Answer
public import proofs.«01_k».proof.Proof.Rows
public import proofs.«01_k».proof.Proof.Gen.ReferenceIdeal
public import Idealize.ShloMosaic.Lib.Pointwise.IndexBridge

@[expose] public section

noncomputable section

namespace Cert.Reference

open Cert.ReferenceIdeal Cert.ReferenceIdeal.Gen Idealize.ShloMosaic

/-- A negative word raised by `n`, as the array operations index from the end. -/
def wrapped (n : BitVec 32) (x : IVec S8192 32) : IVec S8192 32 :=
  select (cmpi .slt x (broadcastInDim S8192 ![] bcast_S_S8192 (constantI S_ 32 0#32)))
    (addi x (broadcastInDim S8192 ![] bcast_S_S8192 (constantI S_ 32 n))) x

/-- A vector of words as a column. -/
def col (x : IVec S8192 32) : IVec S8192x1 32 := broadcastInDim S8192x1 ![0] bcast_S8192_S8192x1_0 x

/-- The time step of each batch position. -/
def steps (p : IVec S16384 32) (b : IVec S8192 32) : IVec S8192 32 :=
  Host.gather gather_S16384_S8192x1_S8192_n_0_n_n_0_1_1 p (col (wrapped 16384#32 b))

/-- The pairs (batch position, time step). -/
def pairs (p : IVec S16384 32) (b : IVec S8192 32) : IVec S8192x2 32 :=
  concatenate S8192x2 1 [⟨S8192x1, col (wrapped 16384#32 b)⟩, ⟨S8192x1, col (wrapped 200#32 (steps p b))⟩]
    concatenates_S8192x1_S8192x1_S8192x2_d1

/-- The table of actions. -/
def acts (sols : FVec Ideal S16384x200x3 .f32) (p : IVec S16384 32) (b : IVec S8192 32) : FVec Ideal S16384x3 .f32 :=
  Host.scatter scatter_S16384x3_S8192x1_S8192x3_1_0_0_1 (fun _ b => b)
    (broadcastInDim S16384x3 ![] bcast_S_S16384x3 (constant (F := Ideal) S_ .f32 0x00000000#32)) (col (wrapped 16384#32 b))
    (Host.gather gather_S16384x200x3_S8192x2_S8192x3_1_01_n_n_01_1_113 sols (pairs p b))

/-- A table of 512 columns spread over the batch positions. -/
def spread (e : FVec Ideal S8192x512 .f32) (b : IVec S8192 32) : FVec Ideal S16384x512 .f32 :=
  Host.scatter scatter_S16384x512_S8192x1_S8192x512_1_0_0_1 (fun _ b => b)
    (broadcastInDim S16384x512 ![] bcast_S_S16384x512 (constant (F := Ideal) S_ .f32 0x00000000#32)) (col (wrapped 16384#32 b)) e

/-- The reference's result. -/
def result (sols : FVec Ideal S16384x200x3 .f32) (e f : FVec Ideal S8192x512 .f32) (p : IVec S16384 32)
    (b : IVec S8192 32) : FVec Ideal S16384x1027 .f32 :=
  concatenate S16384x1027 1 [⟨S16384x3, acts sols p b⟩, ⟨S16384x512, spread e b⟩, ⟨S16384x512, spread f b⟩]
    concatenates_S16384x3_S16384x512_S16384x512_S16384x1027_d1

/-- A small word is not raised. -/
theorem wrapped_at (n : BitVec 32) (x : IVec S8192 32) (a : Fin 8192) (h : (x (ix1 a)).toNat < 2 ^ 31) :
    wrapped n x (ix1 a) = x (ix1 a) := by
  have := Routing.wrap_of_lt (x (ix1 a)) (x (ix1 a) + n) h
  unfold wrapped
  pointwise
  exact this

/-- A column read at a row. -/
theorem col_at (x : IVec S8192 32) (a : Fin 8192) : col x (ix2 a 0) = x (ix1 a) := by
  unfold col
  pointwise

variable {p : IVec S16384 32} {b : IVec S8192 32} {step : Fin 16384 → Fin 200}
  (hb : ∀ a : Fin 8192, b (ix1 a) = BitVec.ofNat 32 a.val)
  (hp : ∀ i : Fin 16384, p (ix1 i) = BitVec.ofNat 32 (step i).val)

include hb in
/-- The column of batch positions counts up from zero. -/
theorem position (a : Fin 8192) : col (wrapped 16384#32 b) (ix2 a 0) = BitVec.ofNat 32 a.val := by
  have ha := a.isLt
  rw [col_at, wrapped_at, hb]
  rw [hb, BitVec.toNat_ofNat]
  omega

include hb in
/-- The same, as numbers. -/
theorem position_int (a : Fin 8192) :
    (col (wrapped 16384#32 b) (ValueIdx.ix2 a (0 : Fin 1))).toInt = (a.val : Int) := by
  rw [← ix2_eq_valueIdx, position hb]
  exact StableHlo.Predicate.toInt_ofNat_small _ (by omega)

include hb hp in
/-- The time step of a batch position. -/
theorem steps_at (a : Fin 8192) (i : Fin 16384) (hi : i.val = a.val) :
    steps p b (ix1 a) = BitVec.ofNat 32 (step i).val := by
  rw [← hp i, ix1_eq_valueIdx, ix1_eq_valueIdx]
  refine Routing.gather_take1 _ rfl rfl rfl rfl p _ a i ?_ (by norm_num)
  rw [← ix2_eq_valueIdx, position hb, hi]

include hb in
/-- The first word of a pair. -/
theorem pairs_fst (a : Fin 8192) : (pairs p b (ValueIdx.ix2 a (0 : Fin 2))).toInt = (a.val : Int) := by
  rw [← position_int hb a, ← ix2_eq_valueIdx, ← ix2_eq_valueIdx]
  unfold pairs
  pointwise

include hb hp in
/-- The second word of a pair. -/
theorem pairs_snd (a : Fin 8192) (i : Fin 16384) (hi : i.val = a.val) :
    (pairs p b (ValueIdx.ix2 a (1 : Fin 2))).toInt = ((step i).val : Int) := by
  have hs := (step i).isLt
  have h : pairs p b (ix2 a (1 : Fin 2)) = col (wrapped 200#32 (steps p b)) (ix2 a 0) := by
    unfold pairs
    pointwise
  rw [← ix2_eq_valueIdx, h, col_at, wrapped_at, steps_at hb hp a i hi]
  · exact StableHlo.Predicate.toInt_ofNat_small _ (by omega)
  · rw [steps_at hb hp a i hi, BitVec.toNat_ofNat]
    omega

include hb hp in
/-- A filled row of the actions. -/
theorem acts_at (sols : FVec Ideal S16384x200x3 .f32) (i : Fin 16384) (hi : i.val < 8192) (k : Fin 3) :
    acts sols p b (ix2 i k) = sols (ix3 i (step i) k) := by
  rw [ix2_eq_valueIdx, ix3_eq_valueIdx]
  exact (Rows.written _ rfl rfl rfl rfl _ _ _ (position_int hb) i ⟨i.val, hi⟩ rfl k).trans
    (Rows.picked _ rfl rfl rfl rfl rfl rfl _ _ _ _ _ _ (pairs_fst hb _) (pairs_snd hb hp _ i rfl))

include hb in
/-- The other rows of the actions. -/
theorem acts_rest (sols : FVec Ideal S16384x200x3 .f32) (i : Fin 16384) (hi : 8192 ≤ i.val) (k : Fin 3) :
    acts sols p b (ix2 i k) = 0 := by
  rw [ix2_eq_valueIdx]
  refine (Rows.kept _ rfl rfl rfl rfl _ _ _ (position_int hb) i hi k).trans ?_
  pointwise

include hb in
/-- A filled row of a spread table. -/
theorem spread_at (e : FVec Ideal S8192x512 .f32) (i : Fin 16384) (a : Fin 8192) (hi : i.val = a.val) (k : Fin 512) :
    spread e b (ix2 i k) = e (ix2 a k) := by
  rw [ix2_eq_valueIdx, ix2_eq_valueIdx]
  exact Rows.written _ rfl rfl rfl rfl _ _ _ (position_int hb) i a hi k

include hb in
/-- The other rows of a spread table. -/
theorem spread_rest (e : FVec Ideal S8192x512 .f32) (i : Fin 16384) (hi : 8192 ≤ i.val) (k : Fin 512) :
    spread e b (ix2 i k) = 0 := by
  rw [ix2_eq_valueIdx]
  refine (Rows.kept _ rfl rfl rfl rfl _ _ _ (position_int hb) i hi k).trans ?_
  pointwise

variable (sols : FVec Ideal S16384x200x3 .f32) (e f : FVec Ideal S8192x512 .f32)

/-- The first three columns of the result. -/
theorem result_act (i : Fin 16384) (j : Fin 1027) (k : Fin 3) (hj : j.val = k.val) :
    result sols e f p b (ix2 i j) = acts sols p b (ix2 i k) := by
  exact concatenate_apply_piece (t := S16384x1027) 1 _ _ _ 0 (by show 0 < 3; omega) S16384x3 (acts sols p b) rfl rfl 0 rfl
    (ix2 i k) (fun x hx => by match x with | ⟨0, _⟩ => rfl | ⟨1, _⟩ => exact absurd rfl hx)
    ((Nat.zero_add _).trans hj.symm)

/-- The next 512 columns. -/
theorem result_elig (i : Fin 16384) (j : Fin 1027) (k : Fin 512) (hj : j.val = 3 + k.val) :
    result sols e f p b (ix2 i j) = spread e b (ix2 i k) := by
  exact concatenate_apply_piece (t := S16384x1027) 1 _ _ _ 1 (by show 1 < 3; omega) S16384x512 (spread e b) rfl rfl 3 rfl
    (ix2 i k) (fun x hx => by match x with | ⟨0, _⟩ => rfl | ⟨1, _⟩ => exact absurd rfl hx) hj.symm

/-- The last 512 columns. -/
theorem result_fut (i : Fin 16384) (j : Fin 1027) (k : Fin 512) (hj : j.val = 515 + k.val) :
    result sols e f p b (ix2 i j) = spread f b (ix2 i k) := by
  exact concatenate_apply_piece (t := S16384x1027) 1 _ _ _ 2 (by show 2 < 3; omega) S16384x512 (spread f b) rfl rfl 515 rfl
    (ix2 i k) (fun x hx => by match x with | ⟨0, _⟩ => rfl | ⟨1, _⟩ => exact absurd rfl hx) hj.symm

include hb hp in
/-- The reference's result is the answer. -/
theorem result_eq : result sols e f p b = Answer.answer sols e f step := by
  funext y
  obtain ⟨i, j, rfl⟩ : ∃ i j, y = ix2 i j := ⟨y 0, y 1, eq_ix2 y⟩
  show _ = Answer.entry sols e f step i j
  rcases Nat.lt_or_ge i.val 8192 with hi | hi
  · rcases Answer.kinds j with ⟨k, hj⟩ | ⟨k, hj⟩ | ⟨k, hj⟩
    · rw [result_act sols e f i j k hj, acts_at hb hp sols i hi, Answer.entry_sol sols e f step hi k hj]
    · rw [result_elig sols e f i j k hj, spread_at hb e i ⟨i.val, hi⟩ rfl,
        Answer.entry_elig sols e f step ⟨i.val, hi⟩ rfl k hj]
    · rw [result_fut sols e f i j k hj, spread_at hb f i ⟨i.val, hi⟩ rfl,
        Answer.entry_fut sols e f step ⟨i.val, hi⟩ rfl k hj]
  · rw [Answer.entry_rest sols e f step hi]
    rcases Answer.kinds j with ⟨k, hj⟩ | ⟨k, hj⟩ | ⟨k, hj⟩
    · rw [result_act sols e f i j k hj, acts_rest hb sols i hi]
    · rw [result_elig sols e f i j k hj, spread_rest hb e i hi]
    · rw [result_fut sols e f i j k hj, spread_rest hb f i hi]

end Cert.Reference

end
-- ==== Proof.Equation.lean ====
/-
  The kernel and the reference end with one array: the answer, with the time step of each row read from the pointers.
-/
module

public import proofs.«01_k».proof.Defs
public import proofs.«01_k».proof.Proof.Drawn
public import proofs.«01_k».proof.Proof.Array
public import proofs.«01_k».proof.Proof.Reference
public import proofs.«01_k».proof.Proof.Gen.ReferenceIdeal.Run

@[expose] public section

noncomputable section

namespace Cert.Equation

open Idealize.ShloMosaic Idealize.SL.Sem

/-- A word is the word of its number. -/
theorem word (x : BitVec 32) : x = BitVec.ofNat 32 x.toNat := by rw [BitVec.ofNat_toNat, BitVec.setWidth_eq]

/-- The two programs agree on arguments as they are drawn. -/
theorem algebraic : algebraic_KernelIdeal_ReferenceIdeal_pre_drawn
    (hKernelIdeal := Cert.KernelIdeal.Gen.facts) (hReferenceIdeal := Cert.ReferenceIdeal.Gen.facts)
    (hPre_drawn := Cert.Pre_drawn.Gen.facts) := by
  intro m g m' g' hpre hag
  have drawn := fun c i j => Drawn.both (hF := Cert.Pre_drawn.Gen.facts) (hpre c) i j
  let step : Dev Cert.KernelIdeal.nD → Fin 16384 → Fin 200 := fun c i => ⟨_, (drawn c (ix1 i) (ix1 0)).1⟩
  refine ⟨fun c => Array.want m c (step c), Array.run g step fun _ _ => word _, ?_⟩
  · refine (θ_run Cert.ReferenceIdeal.defs _ _).mono (fun r h c => ⟨(h c).1.trans ?_, (h c).2⟩)
      (Cert.ReferenceIdeal.Value.run (F := Ideal) m' g')
    obtain ⟨h0, h1, h2, h3, h4⟩ := hag c
    rw [h0, h1, h2, h3, h4]
    exact Reference.result_eq (fun a => (drawn c (ix1 0) (ix1 a)).2) (fun _ => word _) _ _ _

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_drawn
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference runs, leaves its arguments as they were and no counter raised. -/
theorem reference_frame : quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Cert.Pre_drawn.Gen.facts,
  fun m ρ _ => Cert.Kernel.Gen.frame m ρ, fun m ρ _ => Cert.KernelIdeal.Gen.frame m ρ,
  fun m ρ _ => Cert.KernelIdeal.Gen.frame m ρ, reference_frame, fun m ρ _ => reference_frame m ρ trivial,
  trivial, Cert.Equation.algebraic⟩

end Cert.Proof

end
